-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S1x128x32 : Shape := ⟨3, ![1, 128, 32]⟩
abbrev S8192x2 : Shape := ⟨2, ![8192, 2]⟩
abbrev S8192 : Shape := ⟨1, ![8192]⟩
abbrev S8192x128 : Shape := ⟨2, ![8192, 128]⟩
abbrev S_ : Shape := ⟨0, ![]⟩

class Facts : Prop where
  bcast_S_S8192x2 : S_.BroadcastsInDim S8192x2 (![] : Fin 0 → Fin S8192x2.rank)
  reducesTo_S8192x2_S_d0_1 : S8192x2.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn_round {F : FTy → Type} [FloatOps F] (arg0 : FVec F S8192 .f32) : FVec F S8192 .f32 :=
  let v0 : FVec F S8192 .f32 := Host.roundeven arg0
  v0

def fn_part1 {F : FTy → Type} [FloatOps F] (main_arg5 : FVec F S8192 .f32) (main_v13 : IVec S_ 1) (main_v16 : FVec F S8192 .f32) : IVec S_ 1 :=
  let main_cst_5 : FVec F S_ .f32 := constant S_ .f32 0x3D4CCCCD#32
  let main_v17 : FVec F S8192 .f32 := broadcastInDim S8192 ![] bcast_S_S8192 main_cst_5
  let main_v18 : FVec F S8192 .f32 := mulf main_v16 main_v17
  let main_v19 : IVec S8192 1 := cmpf .oeq main_arg5 main_v18
  let main_c_6 : IVec S_ 1 := constantI S_ 1 1#1
  let main_v20 : IVec S_ 1 := (fun x v => Host.reduce IntOp.andi x v reducesTo_S8192_S_d0 h_S_) main_v19 main_c_6
  let main_v21 : IVec S_ 1 := andi main_v13 main_v20
  main_v21

def fn {F : FTy → Type} [FloatOps F] (main_arg0 : FVec F S1x128x32 .f32) (main_arg1 : IVec S8192x2 32) (main_arg2 : FVec F S8192 .f32) (main_arg3 : FVec F S8192 .f32) (main_arg4 : FVec F S8192 .f32) (main_arg5 : FVec F S8192 .f32) (main_arg6 : IVec S8192x128 1) (main_arg7 : FVec F S8192 .f32) : IVec S_ 1 :=
  let main_c : IVec S_ 32 := constantI S_ 32 0#32
  let main_v0 : IVec S8192x2 32 := broadcastInDim S8192x2 ![] bcast_S_S8192x2 main_c
  let main_v1 : IVec S8192x2 1 := cmpi .sge main_arg1 main_v0
  let main_c_0 : IVec S_ 32 := constantI S_ 32 32#32
  let main_v2 : IVec S8192x2 32 := broadcastInDim S8192x2 ![] bcast_S_S8192x2 main_c_0
  let main_v3 : IVec S8192x2 1 := cmpi .slt main_arg1 main_v2
  let main_v4 : IVec S8192x2 1 := andi main_v1 main_v3
  let main_c_1 : IVec S_ 1 := constantI S_ 1 1#1
  let main_v5 : IVec S_ 1 := (fun x v => Host.reduce IntOp.andi x v reducesTo_S8192x2_S_d0_1 h_S_) main_v4 main_c_1
  let main_cst : FVec F S_ .f32 := constant S_ .f32 0x41A00000#32
  let main_v6 : FVec F S8192 .f32 := broadcastInDim S8192 ![] bcast_S_S8192 main_cst
  let main_v7 : FVec F S8192 .f32 := mulf main_arg4 main_v6
  let main_v8 : FVec F S8192 .f32 := fn_round (F := F) main_v7
  let main_cst_2 : FVec F S_ .f32 := constant S_ .f32 0x3D4CCCCD#32
  let main_v9 : FVec F S8192 .f32 := broadcastInDim S8192 ![] bcast_S_S8192 main_cst_2
  let main_v10 : FVec F S8192 .f32 := mulf main_v8 main_v9
  let main_v11 : IVec S8192 1 := cmpf .oeq main_arg4 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v5 main_v12
  let main_cst_4 : FVec F S_ .f32 := constant S_ .f32 0x41A00000#32
  let main_v14 : FVec F S8192 .f32 := broadcastInDim S8192 ![] bcast_S_S8192 main_cst_4
  let main_v15 : FVec F S8192 .f32 := mulf main_arg5 main_v14
  let main_v16 : FVec F S8192 .f32 := fn_round (F := F) main_v15
  fn_part1 (F := F) main_arg5 main_v13 main_v16
-- ==== Kernel.lean ====
abbrev S1x128x32 : Shape := ⟨3, ![1, 128, 32]⟩
abbrev S8192x2 : Shape := ⟨2, ![8192, 2]⟩
abbrev S8192 : Shape := ⟨1, ![8192]⟩
abbrev S8192x128 : Shape := ⟨2, ![8192, 128]⟩
abbrev S128x32 : Shape := ⟨2, ![128, 32]⟩
abbrev S8192x1 : Shape := ⟨2, ![8192, 1]⟩
abbrev S64x128 : Shape := ⟨2, ![64, 128]⟩
abbrev S32x128 : Shape := ⟨2, ![32, 128]⟩
abbrev S4096x128 : Shape := ⟨2, ![4096, 128]⟩
abbrev S128x128 : Shape := ⟨2, ![128, 128]⟩
abbrev S1x128 : Shape := ⟨2, ![1, 128]⟩
abbrev S128 : Shape := ⟨1, ![128]⟩

abbrev nBuf : Space → Nat
  | .hbm => 23
  | .vmem => 19
  | .smem => 0
  | _ => 0

abbrev bufTy : (tb : Table) → Fin (tcTables nBuf tb) → BufTy
  | .hbm, ⟨0, _⟩ => ⟨S1x128x32, .f32⟩
  | .hbm, ⟨1, _⟩ => ⟨S8192x2, .i32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S8192x128, .i1⟩
  | .hbm, ⟨7, _⟩ => ⟨S8192, .f32⟩
  | .hbm, ⟨8, _⟩ => ⟨S128x32, .f32⟩
  | .hbm, ⟨9, _⟩ => ⟨S8192x1, .i32⟩
  | .hbm, ⟨10, _⟩ => ⟨S8192, .i32⟩
  | .hbm, ⟨11, _⟩ => ⟨S64x128, .i32⟩
  | .hbm, ⟨12, _⟩ => ⟨S8192x1, .i32⟩
  | .hbm, ⟨13, _⟩ => ⟨S8192, .i32⟩
  | .hbm, ⟨14, _⟩ => ⟨S64x128, .i32⟩
  | .hbm, ⟨15, _⟩ => ⟨S64x128, .f32⟩
  | .hbm, ⟨16, _⟩ => ⟨S64x128, .f32⟩
  | .hbm, ⟨17, _⟩ => ⟨S64x128, .f32⟩
  | .hbm, ⟨18, _⟩ => ⟨S64x128, .f32⟩
  | .hbm, ⟨19, _⟩ => ⟨S8192x128, .i8⟩
  | .hbm, ⟨20, _⟩ => ⟨S64x128, .f32⟩
  | .hbm, ⟨21, _⟩ => ⟨S64x128, .f32⟩
  | .hbm, ⟨22, _⟩ => ⟨S8192, .f32⟩
  | .local _ .vmem, ⟨0, _⟩ => ⟨S128x32, .f32⟩
  | .local _ .vmem, ⟨1, _⟩ => ⟨S32x128, .i32⟩
  | .local _ .vmem, ⟨2, _⟩ => ⟨S32x128, .i32⟩
  | .local _ .vmem, ⟨3, _⟩ => ⟨S32x128, .i32⟩
  | .local _ .vmem, ⟨4, _⟩ => ⟨S32x128, .i32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S4096x128, .i8⟩
  | .local _ .vmem, ⟨14, _⟩ => ⟨S4096x128, .i8⟩
  | .local _ .vmem, ⟨15, _⟩ => ⟨S32x128, .f32⟩
  | .local _ .vmem, ⟨16, _⟩ => ⟨S32x128, .f32⟩
  | .local _ .vmem, ⟨17, _⟩ => ⟨S32x128, .f32⟩
  | .local _ .vmem, ⟨18, _⟩ => ⟨S32x128, .f32⟩
  | _, _ => ⟨S1x128x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1x128x32 : Shape := ⟨3, ![1, 128, 32]⟩
abbrev S8192x2 : Shape := ⟨2, ![8192, 2]⟩
abbrev S8192 : Shape := ⟨1, ![8192]⟩
abbrev S8192x128 : Shape := ⟨2, ![8192, 128]⟩
abbrev S1x8192x128x32 : Shape := ⟨4, ![1, 8192, 128, 32]⟩
abbrev S8192x128x32 : Shape := ⟨3, ![8192, 128, 32]⟩
abbrev S8192x1x32 : Shape := ⟨3, ![8192, 1, 32]⟩
abbrev S8192x127x32 : Shape := ⟨3, ![8192, 127, 32]⟩
abbrev S8192x1 : Shape := ⟨2, ![8192, 1]⟩
abbrev S_ : Shape := ⟨0, ![]⟩
abbrev S8192x1x1 : Shape := ⟨3, ![8192, 1, 1]⟩
abbrev S8192x1x2 : Shape := ⟨3, ![8192, 1, 2]⟩
abbrev S8192x127 : Shape := ⟨2, ![8192, 127]⟩
abbrev S8192x127x1 : Shape := ⟨3, ![8192, 127, 1]⟩
abbrev S8192x127x2 : Shape := ⟨3, ![8192, 127, 2]⟩

abbrev nBuf : Space → Nat
  | .hbm => 162
  | .vmem => 0
  | .smem => 0
  | _ => 0

abbrev hbmTy0_0 (i : Nat) : BufTy := match i % 128 with
  | 0 => ⟨S1x128x32, .f32⟩
  | 1 => ⟨S8192x2, .i32⟩
  | 2 => ⟨S8192, .f32⟩
  | 3 => ⟨S8192, .f32⟩
  | 4 => ⟨S8192, .f32⟩
  | 5 => ⟨S8192, .f32⟩
  | 6 => ⟨S8192x128, .i1⟩
  | 7 => ⟨S8192, .f32⟩
  | 8 => ⟨S1x8192x128x32, .f32⟩
  | 9 => ⟨S8192x128x32, .f32⟩
  | 10 => ⟨S8192x1x32, .f32⟩
  | 11 => ⟨S8192x127x32, .f32⟩
  | 12 => ⟨S8192, .i32⟩
  | 13 => ⟨S8192x1, .i32⟩
  | 14 => ⟨S8192, .i32⟩
  | 15 => ⟨S_, .i32⟩
  | 16 => ⟨S8192, .i32⟩
  | 17 => ⟨S8192, .i1⟩
  | 18 => ⟨S_, .i32⟩
  | 19 => ⟨S8192, .i32⟩
  | 20 => ⟨S8192, .i32⟩
  | 21 => ⟨S8192, .i32⟩
  | 22 => ⟨S_, .i32⟩
  | 23 => ⟨S8192, .i32⟩
  | 24 => ⟨S8192, .i1⟩
  | 25 => ⟨S_, .i32⟩
  | 26 => ⟨S8192, .i32⟩
  | 27 => ⟨S8192, .i32⟩
  | 28 => ⟨S8192, .i32⟩
  | 29 => ⟨S8192x1, .i32⟩
  | 30 => ⟨S8192x1, .i32⟩
  | 31 => ⟨S8192x2, .i32⟩
  | 32 => ⟨S8192x1, .f32⟩
  | 33 => ⟨S8192x1x1, .f32⟩
  | 34 => ⟨S8192x1, .i32⟩
  | 35 => ⟨S8192, .i32⟩
  | 36 => ⟨S_, .i32⟩
  | 37 => ⟨S8192, .i32⟩
  | 38 => ⟨S8192, .i1⟩
  | 39 => ⟨S_, .i32⟩
  | 40 => ⟨S8192, .i32⟩
  | 41 => ⟨S8192, .i32⟩
  | 42 => ⟨S8192, .i32⟩
  | 43 => ⟨S_, .i32⟩
  | 44 => ⟨S8192, .i32⟩
  | 45 => ⟨S8192, .i1⟩
  | 46 => ⟨S_, .i32⟩
  | 47 => ⟨S8192, .i32⟩
  | 48 => ⟨S8192, .i32⟩
  | 49 => ⟨S8192, .i32⟩
  | 50 => ⟨S8192x1, .i32⟩
  | 51 => ⟨S8192x1, .i32⟩
  | 52 => ⟨S8192x2, .i32⟩
  | 53 => ⟨S8192x1, .f32⟩
  | 54 => ⟨S8192x1x1, .f32⟩
  | 55 => ⟨S8192x1x2, .f32⟩
  | 56 => ⟨S8192x1, .i32⟩
  | 57 => ⟨S8192, .i32⟩
  | 58 => ⟨S_, .i32⟩
  | 59 => ⟨S8192, .i32⟩
  | 60 => ⟨S8192, .i1⟩
  | 61 => ⟨S_, .i32⟩
  | 62 => ⟨S8192, .i32⟩
  | 63 => ⟨S8192, .i32⟩
  | 64 => ⟨S8192, .i32⟩
  | 65 => ⟨S_, .i32⟩
  | 66 => ⟨S8192, .i32⟩
  | 67 => ⟨S8192, .i1⟩
  | 68 => ⟨S_, .i32⟩
  | 69 => ⟨S8192, .i32⟩
  | 70 => ⟨S8192, .i32⟩
  | 71 => ⟨S8192, .i32⟩
  | 72 => ⟨S8192x1, .i32⟩
  | 73 => ⟨S8192x1, .i32⟩
  | 74 => ⟨S8192x2, .i32⟩
  | 75 => ⟨S8192x127, .f32⟩
  | 76 => ⟨S8192x127x1, .f32⟩
  | 77 => ⟨S8192x1, .i32⟩
  | 78 => ⟨S8192, .i32⟩
  | 79 => ⟨S_, .i32⟩
  | 80 => ⟨S8192, .i32⟩
  | 81 => ⟨S8192, .i1⟩
  | 82 => ⟨S_, .i32⟩
  | 83 => ⟨S8192, .i32⟩
  | 84 => ⟨S8192, .i32⟩
  | 85 => ⟨S8192, .i32⟩
  | 86 => ⟨S_, .i32⟩
  | 87 => ⟨S8192, .i32⟩
  | 88 => ⟨S8192, .i1⟩
  | 89 => ⟨S_, .i32⟩
  | 90 => ⟨S8192, .i32⟩
  | 91 => ⟨S8192, .i32⟩
  | 92 => ⟨S8192, .i32⟩
  | 93 => ⟨S8192x1, .i32⟩
  | 94 => ⟨S8192x1, .i32⟩
  | 95 => ⟨S8192x2, .i32⟩
  | 96 => ⟨S8192x127, .f32⟩
  | 97 => ⟨S8192x127x1, .f32⟩
  | 98 => ⟨S8192x127x2, .f32⟩
  | 99 => ⟨S_, .f32⟩
  | 100 => ⟨S8192, .f32⟩
  | 101 => ⟨S8192, .f32⟩
  | 102 => ⟨S8192, .f32⟩
  | 103 => ⟨S8192, .f32⟩
  | 104 => ⟨S8192x1, .f32⟩
  | 105 => ⟨S8192x1, .f32⟩
  | 106 => ⟨S8192x2, .f32⟩
  | 107 => ⟨S_, .f32⟩
  | 108 => ⟨S8192x2, .f32⟩
  | 109 => ⟨S8192x2, .f32⟩
  | 110 => ⟨S8192x1x2, .f32⟩
  | 111 => ⟨S8192x1x2, .f32⟩
  | 112 => ⟨S8192x127x2, .f32⟩
  | 113 => ⟨S8192x127x2, .f32⟩
  | 114 => ⟨S8192x127x2, .f32⟩
  | 115 => ⟨S_, .f32⟩
  | 116 => ⟨S8192x127x2, .f32⟩
  | 117 => ⟨S8192x127x2, .f32⟩
  | 118 => ⟨S8192x127x2, .f32⟩
  | 119 => ⟨S_, .f32⟩
  | 120 => ⟨S8192x127x2, .f32⟩
  | 121 => ⟨S8192x127x2, .f32⟩
  | 122 => ⟨S8192x127x2, .f32⟩
  | 123 => ⟨S8192x127x2, .f32⟩
  | 124 => ⟨S8192x127x1, .f32⟩
  | 125 => ⟨S8192x127, .f32⟩
  | 126 => ⟨S8192x127x1, .f32⟩
  | 127 => ⟨S8192x127, .f32⟩
  | _ => ⟨S1x128x32, .f32⟩

abbrev hbmTy0_1 (i : Nat) : BufTy := match i % 128 with
  | 0 => ⟨S8192x127, .f32⟩
  | 1 => ⟨S_, .f32⟩
  | 2 => ⟨S8192x127, .f32⟩
  | 3 => ⟨S8192x127, .f32⟩
  | 4 => ⟨S_, .f32⟩
  | 5 => ⟨S8192x127, .f32⟩
  | 6 => ⟨S8192x127, .f32⟩
  | 7 => ⟨S8192x127, .f32⟩
  | 8 => ⟨S8192x1, .f32⟩
  | 9 => ⟨S8192x127, .f32⟩
  | 10 => ⟨S8192x127, .i1⟩
  | 11 => ⟨S8192x127x1, .f32⟩
  | 12 => ⟨S8192x127, .f32⟩
  | 13 => ⟨S8192x1, .f32⟩
  | 14 => ⟨S8192x127, .f32⟩
  | 15 => ⟨S8192x127, .i1⟩
  | 16 => ⟨S8192x127x1, .f32⟩
  | 17 => ⟨S8192x127, .f32⟩
  | 18 => ⟨S8192x1, .f32⟩
  | 19 => ⟨S8192x127, .f32⟩
  | 20 => ⟨S8192x127, .i1⟩
  | 21 => ⟨S8192x127, .i1⟩
  | 22 => ⟨S8192x127, .i1⟩
  | 23 => ⟨S8192x127, .i1⟩
  | 24 => ⟨S8192x127, .i1⟩
  | 25 => ⟨S8192x127, .i32⟩
  | 26 => ⟨S_, .i32⟩
  | 27 => ⟨S8192, .i32⟩
  | 28 => ⟨S_, .i32⟩
  | 29 => ⟨S8192, .i32⟩
  | 30 => ⟨S8192, .i1⟩
  | 31 => ⟨S8192, .i1⟩
  | 32 => ⟨S8192, .f32⟩
  | 33 => ⟨S8192, .f32⟩
  | _ => ⟨S1x128x32, .f32⟩

abbrev hbmTy (i : Nat) : BufTy := match i / 128 with
  | 0 => hbmTy0_0 i
  | 1 => hbmTy0_1 i
  | _ => ⟨S1x128x32, .f32⟩

abbrev bufTy : (tb : Table) → Fin (tcTables nBuf tb) → BufTy
  | .hbm, ⟨i, _⟩ => hbmTy i
  | _, _ => ⟨S1x128x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_v42 : Ref sig .tc := ⟨.hbm, 59, rfl⟩
abbrev main_v43 : Ref sig .tc := ⟨.hbm, 60, rfl⟩
abbrev main_c_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_9 : Ref sig .tc := ⟨.hbm, 65, rfl⟩
abbrev main_v47 : Ref sig .tc := ⟨.hbm, 66, rfl⟩
abbrev main_v48 : Ref sig .tc := ⟨.hbm, 67, rfl⟩
abbrev main_c_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_11 : Ref sig .tc := ⟨.hbm, 79, rfl⟩
abbrev main_v59 : Ref sig .tc := ⟨.hbm, 80, rfl⟩
abbrev main_v60 : Ref sig .tc := ⟨.hbm, 81, rfl⟩
abbrev main_c_12 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_13 : Ref sig .tc := ⟨.hbm, 86, rfl⟩
abbrev main_v64 : Ref sig .tc := ⟨.hbm, 87, rfl⟩
abbrev main_v65 : Ref sig .tc := ⟨.hbm, 88, rfl⟩
abbrev main_c_14 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_15 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_16 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_17 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_18 : Ref sig .tc := ⟨.hbm, 129, rfl⟩
abbrev main_v101 : Ref sig .tc := ⟨.hbm, 130, rfl⟩
abbrev main_v102 : Ref sig .tc := ⟨.hbm, 131, rfl⟩
abbrev main_cst_19 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_c_20 : Ref sig .tc := ⟨.hbm, 154, rfl⟩
abbrev main_v124 : Ref sig .tc := ⟨.hbm, 155, rfl⟩
abbrev main_c_21 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩

abbrev nD : Nat := 1
abbrev τ : Topo := Topo.v7x

variable {F : FTy → Type} [FloatOps F]
-- ==== Proof.Cell.lean ====
/- One object against one rule, in extended reals: what the kernel tests, what the reference tests, and that the two
   tests agree once the rule's distances are whole multiples of the step. -/
module

public import Idealize.ShloMosaic.Lib.Pointwise

@[expose] public section

noncomputable section

namespace Cert.Proof

open Idealize.ShloMosaic

/-- A conjunction of bits is set exactly when both are. -/
theorem andi_one (a b : BitVec 1) : IntOp.andi a b = 1#1 ↔ a = 1#1 ∧ b = 1#1 := by
  revert a b; decide

/-- The bit of a decided proposition is set exactly when the proposition holds. -/
theorem bit_one (p : Prop) [Decidable p] : BitVec.ofBool (decide p) = 1#1 ↔ p := by
  by_cases h : p <;> simp [h]

/-- The length of one step: the number the f32 pattern of 0.05 denotes. -/
abbrev stepLen : EReal := Ideal.ofBits .f32 0x3D4CCCCD#32

/-- Rounding to the nearest whole number, halves to even. -/
abbrev nearest (x : EReal) : EReal := Ideal.liftRound Ideal.roundHalfEven x

/-- A feature after one step in a direction given in degrees, along the first axis. -/
def movedCos (q deg : EReal) : EReal := q + Ideal.cos (deg * Ideal.ofBits .f32 0x3C8EFA35#32) * stepLen

/-- A feature after one step in a direction given in degrees, along the second axis. -/
def movedSin (q deg : EReal) : EReal := q + Ideal.sin (deg * Ideal.ofBits .f32 0x3C8EFA35#32) * stepLen

/-- The distance between two positions, in whole steps. -/
def stepsBetween (a b : EReal) : EReal := nearest (Ideal.div (FloatOps.absf (F := Ideal) (φ := .f32) (a - b)) stepLen)

/-- The direction from `(mx, my)` to `(x, y)`, in whole eighths of a turn. -/
def directionTo (mx my x y : EReal) : EReal :=
  nearest (Ideal.div (Ideal.atan2 (y - my) (x - mx) * Ideal.ofBits .f32 0x42652EE1#32) (Ideal.ofBits .f32 0x42340000#32))

/-- The kernel's test of the object at `(x, y)` against a rule: the direction is the rule's, and both distances, counted
    in whole steps, are the rule's distances counted in whole steps. -/
def kernelTest (px py deg dt xt yt x y : EReal) : Prop :=
  (directionTo (movedCos px deg) (movedSin py deg) x y = dt
    ∧ stepsBetween (movedCos px deg) x = nearest (xt * Ideal.ofBits .f32 0x41A00000#32))
    ∧ stepsBetween (movedSin py deg) y = nearest (yt * Ideal.ofBits .f32 0x41A00000#32)

/-- The reference's test: the direction is the rule's, and both distances, rounded to whole steps and turned back into
    lengths, are the rule's distances. -/
def referenceTest (px py deg dt xt yt x y : EReal) : Prop :=
  (directionTo (movedCos px deg) (movedSin py deg) x y = dt
    ∧ stepsBetween (movedCos px deg) x * stepLen = xt)
    ∧ stepsBetween (movedSin py deg) y * stepLen = yt

/-- A distance is a whole multiple of the step: twenty times it, rounded, times the step is the distance itself. -/
def OnGrid (t : EReal) : Prop := t = nearest (t * Ideal.ofBits .f32 0x41A00000#32) * stepLen

/-- The step is a real number other than zero. -/
theorem stepLen_real : ∃ r : ℝ, r ≠ 0 ∧ stepLen = (r : EReal) := by
  refine ⟨13421773 * (2 : ℝ) ^ (-28 : Int), by positivity, ?_⟩
  simp [Ideal.ofBits, Ideal.ieee, -EReal.coe_mul]

/-- Multiplication by the step can be undone. -/
theorem mul_stepLen_inj {a b : EReal} (h : a * stepLen = b * stepLen) : a = b := by
  obtain ⟨r, hr, e⟩ := stepLen_real
  have h1 : stepLen * ((r⁻¹ : ℝ) : EReal) = 1 := by
    rw [e, ← EReal.coe_mul, mul_inv_cancel₀ hr]; rfl
  calc a = a * stepLen * ((r⁻¹ : ℝ) : EReal) := by rw [mul_assoc, h1, mul_one]
    _ = b * stepLen * ((r⁻¹ : ℝ) : EReal) := by rw [h]
    _ = b := by rw [mul_assoc, h1, mul_one]

/-- Comparing counts of steps is comparing lengths, for a distance on the grid. -/
theorem steps_eq_iff {t : EReal} (ht : OnGrid t) (s : EReal) :
    s = nearest (t * Ideal.ofBits .f32 0x41A00000#32) ↔ s * stepLen = t := by
  constructor
  · intro h
    rw [h]; exact ht.symm
  · intro h
    refine mul_stepLen_inj ?_
    rw [h]; exact ht

/-- The two tests agree when the rule's distances are on the grid. -/
theorem kernelTest_iff {px py deg dt xt yt x y : EReal} (hx : OnGrid xt) (hy : OnGrid yt) :
    kernelTest px py deg dt xt yt x y ↔ referenceTest px py deg dt xt yt x y := by
  unfold kernelTest referenceTest
  rw [steps_eq_iff hx, steps_eq_iff hy]

open Classical in
/-- The weight, if the condition holds; zero times the weight if not. -/
def weighted (p : Prop) (w : EReal) : EReal := (if p then 1 else 0) * w

end Cert.Proof

end
-- ==== Proof.Pre.lean ====
/- What the precondition gives at one index: every rule's two feature positions lie in the feature range, and its two
   distances are whole multiples of the step. -/
module

public import proofs.«01_k».proof.Proof.Gen.Pre_drawn
public import proofs.«01_k».proof.Proof.Cell
public import Idealize.ShloMosaic.Lib.ReduceAll

@[expose] public section

noncomputable section

namespace Cert.Proof.Pre

open Idealize.ShloMosaic Cert.Pre_drawn Cert.Pre_drawn.Gen

/-- The shape without axes has one index. -/
instance : Subsingleton S_.Idx := ⟨fun _ _ => funext fun d => d.elim0⟩

/-- The precondition's test of the distances, holding at an index, says the distance there is on the grid. -/
theorem onGrid_of_test (t : FVec Ideal S8192 .f32) (b : Fin 8192)
    (h : cmpf .oeq t (mulf (fn_round (F := Ideal) (mulf t (broadcastInDim S8192 ![] Facts.bcast_S_S8192 (constant S_ .f32 0x41A00000#32))))
      (broadcastInDim S8192 ![] Facts.bcast_S_S8192 (constant S_ .f32 0x3D4CCCCD#32))) (ix1 b) = 1#1) :
    OnGrid (t (ix1 b)) := by
  unfold fn_round at h
  pointwise at h
  have h' := (bit_one _).1 h
  exact h'

/-- The precondition, read index by index. -/
theorem drawn_apply (x : FVec Ideal S1x128x32 .f32) (p : IVec S8192x2 32) (deg dt xt yt : FVec Ideal S8192 .f32)
    (msk : IVec S8192x128 1) (w : FVec Ideal S8192 .f32)
    (h : fn (F := Ideal) x p deg dt xt yt msk w = fun _ => 1#1) (b : Fin 8192) :
    (∀ a : Fin 2, ∃ q : Fin 32, (p (ix2 b a)).toInt = q.val) ∧ OnGrid (xt (ix1 b)) ∧ OnGrid (yt (ix1 b)) := by
  have h0 := congrFun h (fun d => d.elim0)
  dsimp only [fn, fn_part1, andi] at h0
  rw [andi_one, andi_one] at h0
  obtain ⟨⟨hp, hx⟩, hy⟩ := h0
  refine ⟨fun a => ?_, onGrid_of_test xt b (Host.reduce_andi_all _ _ _ _ _ hx _),
    onGrid_of_test yt b (Host.reduce_andi_all _ _ _ _ _ hy _)⟩
  have h1 : IntOp.andi (IntOp.cmpi .sge (p (ix2 b a)) 0#32) (IntOp.cmpi .slt (p (ix2 b a)) 32#32) = 1#1 := by
    have h1 := Host.reduce_andi_all _ _ _ _ _ hp (ix2 b a)
    pointwise at h1
    exact h1
  rw [andi_one, IntOp.cmpi_sge, IntOp.cmpi_slt] at h1
  have h2 : (0 : Int) ≤ (p (ix2 b a)).toInt := h1.1
  have h3 : (p (ix2 b a)).toInt < 32 := h1.2
  exact ⟨⟨(p (ix2 b a)).toInt.toNat, by omega⟩, (Int.toNat_of_nonneg h2).symm⟩

end Cert.Proof.Pre

end
-- ==== Proof.Rows.lean ====
/- What the body stores, one row at a time: the 32 rows of the stored block are one function of the row number. -/
module

public import proofs.«01_k».proof.Proof.Gen.KernelIdeal.Frame
public import Idealize.ShloMosaic.Lib.Pointwise

@[expose] public section

set_option maxRecDepth 16384

noncomputable section

namespace Cert.Proof

open Idealize.ShloMosaic Idealize.SL.Sem Cert.KernelIdeal Cert.KernelIdeal.Gen

variable {F : FTy → Type} [FloatOps F]

/-- One row of a `[32, 128]` block is in range. -/
theorem rowSlice (k : Fin 32) : S32x128.Slices ![k.val, 0] S1x128 :=
  ⟨rfl, fun a => by have := k.isLt; fin_cases a <;> simp <;> omega⟩

/-- The 128 rows of the mask block that belong to row `k` are in range. -/
theorem maskSlice (k : Fin 32) : S4096x128.Slices ![128 * k.val, 0] S128x128 :=
  ⟨rfl, fun a => by have := k.isLt; fin_cases a <;> simp <;> omega⟩

/-- Row `k` of a `[32, 128]` block, as a `[1, 128]` vector. -/
def rowAt {α : Type} (k : Fin 32) (v : S32x128.Idx → α) : S1x128.Idx → α :=
  extractStridedSlice S1x128 ![k.val, 0] v (rowSlice k)

/-- The feature that row `k` of the position block names, of every object: the feature table times a one-hot matrix. -/
def feature (k : Fin 32) (tab : FVec F S128x32 .f32) (pos : IVec S32x128 32) : FVec F S128x128 .f32 :=
  matmul dot_S128x32_S32x128_S128x128_1_0_0_1_n_n (some .fp32) tab
    (sitofp .f32 (extui 32 (cmpi .eq (iota .tc S32x128 32 [0] iota_S32x128_d0_w32)
      (broadcastTo S32x128 (rowAt k pos) broadcasts_S1x128_S32x128)) natLt_1_32))
    (constant S128x128 .f32 0x00000000#32)

/-- Object 0 moved one step: its feature plus the step. -/
def movedRow (k : Fin 32) (feat : FVec F S128x128 .f32) (step : FVec F S32x128 .f32) : FVec F S1x128 .f32 :=
  addf (extractStridedSlice S1x128 ![0, 0] feat slices_S128x128_o0_0_S1x128) (rowAt k step)

/-- The distance of every object from the moved object 0 along one feature, in whole steps. -/
def stepsRow (moved : FVec F S1x128 .f32) (feat : FVec F S128x128 .f32) : FVec F S128x128 .f32 :=
  roundeven (divf (absf (subf (broadcastTo S128x128 moved broadcasts_S1x128_S128x128) feat))
    (broadcast S128x128 (Scalar.ofBits .f32 0x3D4CCCCD#32)))

/-- The direction of every object seen from the moved object 0, in whole eighths of a turn. -/
def dirRow (mx my : FVec F S1x128 .f32) (fx fy : FVec F S128x128 .f32) : FVec F S128x128 .f32 :=
  roundeven (divf (mulf (atan2 (subf fy (broadcastTo S128x128 my broadcasts_S1x128_S128x128))
      (subf fx (broadcastTo S128x128 mx broadcasts_S1x128_S128x128)))
    (broadcast S128x128 (Scalar.ofBits .f32 0x42652EE1#32))) (broadcast S128x128 (Scalar.ofBits .f32 0x42340000#32)))

/-- Which objects (down) satisfy the rule of each lane (across): direction and both distances are the rule's. -/
def ruleRow (k : Fin 32) (dirs sx sy : FVec F S128x128 .f32) (dt xt yt : FVec F S32x128 .f32) : IVec S128x128 1 :=
  andi (andi (cmpf .oeq dirs (broadcastTo S128x128 (rowAt k dt) broadcasts_S1x128_S128x128))
    (cmpf .oeq sx (broadcastTo S128x128 (rowAt k xt) broadcasts_S1x128_S128x128)))
    (cmpf .oeq sy (broadcastTo S128x128 (rowAt k yt) broadcasts_S1x128_S128x128))

/-- The lanes at which some object other than object 0 satisfies the rule and is let through by the mask, times the
    weights. -/
def hitRow (k : Fin 32) (rule : IVec S128x128 1) (msk : IVec S4096x128 8) (w : FVec F S32x128 .f32) : FVec F S1x128 .f32 :=
  mulf (sitofp .f32 (extui 32 (shapeCast S1x128 (cmpf .ogt (multiReduction .maximumf [0] S128
    (select (andi (andi rule (cmpi .sgt (iota .tc S128x128 32 [0] iota_S128x128_d0_w32) (broadcast S128x128 0#32)))
        (cmpi .ne (transpose S128x128 [1, 0] (extsi 32 (extractStridedSlice S128x128 ![128 * k.val, 0] msk (maskSlice k)) natLt_8_32)
          transposes_S128x128_p1_0_S128x128) (broadcast S128x128 0#32)))
      (broadcast S128x128 (Scalar.ofBits (F := F) .f32 0x3F800000#32)) (broadcast S128x128 (Scalar.ofBits .f32 0x00000000#32)))
    0xFF800000#32 reduces_S128x128_S128 (.inl rfl) rfl)
    (broadcast S128 (Scalar.ofBits .f32 0x00000000#32))) shapeCasts_S128_S1x128) natLt_1_32)) (rowAt k w)

/-- Row `k` of what the body stores, from the blocks it loads. -/
def row (k : Fin 32) (tab : FVec F S128x32 .f32) (px py : IVec S32x128 32) (deg dt xt yt : FVec F S32x128 .f32)
    (msk : IVec S4096x128 8) (w : FVec F S32x128 .f32) : FVec F S1x128 .f32 :=
  hitRow k (ruleRow k
      (dirRow (movedRow k (feature k tab px) (k0_pay5 deg)) (movedRow k (feature k tab py) (k0_pay6 deg))
        (feature k tab px) (feature k tab py))
      (stepsRow (movedRow k (feature k tab px) (k0_pay5 deg)) (feature k tab px))
      (stepsRow (movedRow k (feature k tab py) (k0_pay6 deg)) (feature k tab py))
      dt (k0_pay8 xt) (k0_pay9 yt)) msk w

/-- Thirty-two rows stack to a `[32, 128]` block. -/
theorem rows_fit (f : Fin 32 → S1x128.Idx → F .f32) :
    Shape.Concatenates ((List.ofFn fun n : Fin 32 => (⟨S1x128, f n⟩ : (s : Shape) × (s.Idx → F .f32))).map (·.1)) S32x128 0 := by
  simp only [List.map_ofFn, Function.comp_def]
  decide

/-- What the body stores, from the blocks it loads: the 32 rows, stacked. -/
def stored (x0 : Vec F S128x32 .f32) (x1 x2 : Vec F S32x128 .i32) (x3 x4 x5 x6 : Vec F S32x128 .f32)
    (x7 : Vec F S4096x128 .i8) (x8 : Vec F S32x128 .f32) : FVec F S32x128 .f32 :=
  concatenate S32x128 0 (List.ofFn fun k : Fin 32 => ⟨S1x128,
    row (F := F) k (k0_pay1 x0) (k0_pay2 (F := F) x1) (k0_pay3 (F := F) x2) x3 (k0_pay7 x4) x5 x6 (k0_pay11 (F := F) x7)
      (k0_pay10 x8)⟩) (rows_fit _)

set_option maxHeartbeats 4000000 in
/-- The output's staging buffer after the body is the stacked rows, stored whole. -/
theorem out0_9_canon (x0 : Vec F S128x32 .f32) (x1 x2 : Vec F S32x128 .i32) (x3 x4 x5 x6 : Vec F S32x128 .f32)
    (x7 : Vec F S4096x128 .i8) (x8 : Vec F S32x128 .f32) :
    out0_9 x0 x1 x2 x3 x4 x5 x6 x7 x8 = View.canon [⟨r0_1, stored (View.ld x0 r0_0) (View.ld x1 r0_1) (View.ld x2 r0_1)
      (View.ld x3 r0_1) (View.ld x4 r0_1) (View.ld x5 r0_1) (View.ld x6 r0_1) (View.ld x7 r0_2) (View.ld x8 r0_1)⟩] := rfl

/-- The same with the loads read away: every load and the store are of whole buffers. -/
theorem out0_9_stored (x0 : Vec F S128x32 .f32) (x1 x2 : Vec F S32x128 .i32) (x3 x4 x5 x6 : Vec F S32x128 .f32)
    (x7 : Vec F S4096x128 .i8) (x8 : Vec F S32x128 .f32) :
    out0_9 x0 x1 x2 x3 x4 x5 x6 x7 x8 = stored x0 x1 x2 x3 x4 x5 x6 x7 x8 := by
  have hz : (![0, 0] : Fin 2 → Nat) = fun _ => 0 := funext fun a => by fin_cases a <;> rfl
  rw [out0_9_canon, View.canon_unit_zero hz]
  simp only [View.ld_unit_zero (S := S128x32) hz, View.ld_unit_zero (S := S32x128) hz, View.ld_unit_zero (S := S4096x128) hz]

/-- The stacked rows at row `k`, lane `j`: row `k` at lane `j`. -/
theorem stored_apply (x0 : Vec F S128x32 .f32) (x1 x2 : Vec F S32x128 .i32) (x3 x4 x5 x6 : Vec F S32x128 .f32)
    (x7 : Vec F S4096x128 .i8) (x8 : Vec F S32x128 .f32) (k : Fin 32) (j : Fin 128) :
    stored x0 x1 x2 x3 x4 x5 x6 x7 x8 (ix2 k j) = row k x0 x1 x2 x3 x4 x5 x6 x7 x8 (ix2 0 j) := by
  unfold stored
  rw [concatenate_ofFn_unit_apply (t := S32x128) (s₁ := S1x128) 0 _ _ rfl rfl (ix2 k j) k rfl (ix2 0 j) (fun b hb => by
    fin_cases b
    · exact absurd rfl hb
    · rfl)]
  simp only [k0_pay1, k0_pay2, k0_pay3, k0_pay7, k0_pay10, k0_pay11, shapeCast_self]

end Cert.Proof

end
-- ==== Proof.RowValue.lean ====
/- One row of what the body stores, over the extended reals: at lane `j` the weight of the rule there, if some object
   other than object 0 passes the rule's test and the mask. -/
module

public import proofs.«01_k».proof.Proof.Rows
public import proofs.«01_k».proof.Proof.Cell

@[expose] public section

set_option maxRecDepth 16384

noncomputable section

namespace Cert.Proof

open Idealize.ShloMosaic Idealize.SL.Sem Cert.KernelIdeal Cert.KernelIdeal.Gen

/-! ## Bits and words -/

/-- A bit widened and converted to a float is one or zero. -/
theorem sitofp_bit (p : Prop) [Decidable p] :
    FloatOps.sitofp (F := Ideal) .f32 (BitVec.setWidth 32 (BitVec.ofBool (decide p))) = if p then (1 : EReal) else 0 := by
  show (((BitVec.setWidth 32 (BitVec.ofBool (decide p))).toInt : ℝ) : EReal) = _
  by_cases h : p <;> simp [h]

/-- An object number is positive as a word exactly when it is positive. -/
theorem sgt_zero_one (o : Fin 128) : IntOp.cmpi .sgt (BitVec.ofNat 32 o.val) 0#32 = 1#1 ↔ 0 < o.val := by
  revert o; decide

/-- A widened mask byte differs from zero exactly when the byte does. -/
theorem ne_zero_one (b : BitVec 8) : IntOp.cmpi .ne (BitVec.signExtend 32 b) 0#32 = 1#1 ↔ b ≠ 0#8 := by
  have h : BitVec.signExtend 32 b = 0#32 ↔ b = 0#8 := by
    rw [← BitVec.toInt_inj, ← BitVec.toInt_inj, BitVec.toInt_signExtend_of_le (by decide)]
    simp
  show BitVec.ofBool (BitVec.signExtend 32 b != 0#32) = 1#1 ↔ _
  by_cases hb : b = 0#8
  · simp [hb]
  · have := mt h.1 hb
    rw [show (BitVec.signExtend 32 b != 0#32) = true from bne_iff_ne.2 this]
    exact iff_of_true rfl hb

/-- A feature number equals a word holding `q` exactly when it is `q`. -/
theorem eq_word (x q : Fin 32) (p : BitVec 32) (h : p.toInt = q.val) :
    IntOp.cmpi .eq (BitVec.ofNat 32 x.val) p = BitVec.ofBool (decide (x = q)) := by
  have hp : p = BitVec.ofNat 32 q.val := by
    refine BitVec.eq_of_toInt_eq ?_
    rw [h]; clear h; revert q; decide
  subst hp
  revert x q; decide

/-! ## The row's parts -/

/-- The one-hot product picks the named feature. -/
theorem feature_apply (k : Fin 32) (tab : FVec Ideal S128x32 .f32) (pos : IVec S32x128 32) (o j : Fin 128) (q : Fin 32)
    (h : (pos (ix2 k j)).toInt = q.val) : feature k tab pos (ix2 o j) = tab (ix2 o q) := by
  pointwise [feature, rowAt]
  simp only [eq_word _ q _ h, sitofp_bit]
  rw [Finset.sum_eq_single q (fun x _ hx => by rw [if_neg hx, mul_zero]) (fun hq => absurd (Finset.mem_univ q) hq), if_pos rfl,
    mul_one]

/-- Object 0 moved, at lane `j`. -/
theorem movedRow_apply (k : Fin 32) (feat : FVec Ideal S128x128 .f32) (step : FVec Ideal S32x128 .f32) (j : Fin 128) :
    movedRow k feat step (ix2 0 j) = feat (ix2 0 j) + step (ix2 k j) := by
  pointwise [movedRow, rowAt]

/-- The step along the first axis. -/
theorem stepCos_apply (deg : FVec Ideal S32x128 .f32) (k : Fin 32) (j : Fin 128) :
    k0_pay5 (F := Ideal) deg (ix2 k j) = Ideal.cos (deg (ix2 k j) * Ideal.ofBits .f32 0x3C8EFA35#32) * stepLen := by
  pointwise [k0_pay5, k0_pay4]

/-- The step along the second axis. -/
theorem stepSin_apply (deg : FVec Ideal S32x128 .f32) (k : Fin 32) (j : Fin 128) :
    k0_pay6 (F := Ideal) deg (ix2 k j) = Ideal.sin (deg (ix2 k j) * Ideal.ofBits .f32 0x3C8EFA35#32) * stepLen := by
  pointwise [k0_pay6, k0_pay4]

/-- A rule's first distance in whole steps. -/
theorem gridX_apply (t : FVec Ideal S32x128 .f32) (k : Fin 32) (j : Fin 128) :
    k0_pay8 (F := Ideal) t (ix2 k j) = nearest (t (ix2 k j) * Ideal.ofBits .f32 0x41A00000#32) := by
  pointwise [k0_pay8]

/-- A rule's second distance in whole steps. -/
theorem gridY_apply (t : FVec Ideal S32x128 .f32) (k : Fin 32) (j : Fin 128) :
    k0_pay9 (F := Ideal) t (ix2 k j) = nearest (t (ix2 k j) * Ideal.ofBits .f32 0x41A00000#32) := by
  pointwise [k0_pay9]

/-- The distance of object `o`, in whole steps. -/
theorem stepsRow_apply (moved : FVec Ideal S1x128 .f32) (feat : FVec Ideal S128x128 .f32) (o j : Fin 128) :
    stepsRow moved feat (ix2 o j) = stepsBetween (moved (ix2 0 j)) (feat (ix2 o j)) := by
  pointwise [stepsRow, stepsBetween]

/-- The direction of object `o`. -/
theorem dirRow_apply (mx my : FVec Ideal S1x128 .f32) (fx fy : FVec Ideal S128x128 .f32) (o j : Fin 128) :
    dirRow mx my fx fy (ix2 o j) = directionTo (mx (ix2 0 j)) (my (ix2 0 j)) (fx (ix2 o j)) (fy (ix2 o j)) := by
  pointwise [dirRow, directionTo]

/-- The rule's test of object `o` at lane `j`. -/
theorem ruleRow_one (k : Fin 32) (dirs sx sy : FVec Ideal S128x128 .f32) (dt xt yt : FVec Ideal S32x128 .f32) (o j : Fin 128) :
    ruleRow k dirs sx sy dt xt yt (ix2 o j) = 1#1
      ↔ (dirs (ix2 o j) = dt (ix2 k j) ∧ sx (ix2 o j) = xt (ix2 k j)) ∧ sy (ix2 o j) = yt (ix2 k j) := by
  pointwise [ruleRow, rowAt]
  rw [andi_one, andi_one, bit_one, bit_one, bit_one]

/-- The pattern a maximum starts from is not above zero. -/
theorem negInf_not_pos : ¬ (0 : EReal) < Ideal.ofBits .f32 0xFF800000#32 := by
  have : Ideal.ofBits .f32 0xFF800000#32 = (⊥ : EReal) := by simp [Ideal.ofBits, Ideal.ieee]
  rw [this]
  exact not_lt_bot

/-- A maximum of ones and zeros is above zero exactly when some bit is set. -/
theorem fold_pos (b : Fin 128 → BitVec 1) :
    (0 : EReal) < Finset.fold max (Ideal.ofBits .f32 0xFF800000#32) (fun x => Scalar.select (b x) (1 : EReal) 0) Finset.univ
      ↔ ∃ o, b o = 1#1 := by
  rw [Finset.lt_fold_max]
  constructor
  · rintro (h | ⟨o, _, h⟩)
    · exact absurd h negInf_not_pos
    · refine ⟨o, ?_⟩
      by_contra hb
      rw [show b o = 0#1 from (BitVec.eq_zero_or_eq_one (b o)).resolve_right hb] at h
      exact lt_irrefl _ h
  · rintro ⟨o, h⟩
    refine .inr ⟨o, Finset.mem_univ o, ?_⟩
    rw [h]
    exact zero_lt_one

/-- The row's last part at lane `j`: the weight, if some object other than object 0 passes the test and the mask. -/
theorem hitRow_apply (k : Fin 32) (rule : IVec S128x128 1) (msk : IVec S4096x128 8) (w : FVec Ideal S32x128 .f32) (j : Fin 128) :
    hitRow k rule msk w (ix2 0 j)
      = weighted (∃ o : Fin 128, (rule (ix2 o j) = 1#1 ∧ 0 < o.val)
          ∧ msk (ix2 ⟨128 * k.val + j.val, by have := k.isLt; have := j.isLt; omega⟩ o) ≠ 0#8) (w (ix2 k j)) := by
  classical
  pointwise [hitRow, rowAt]
  rw [sitofp_bit]
  simp only [fold_pos, andi_one, sgt_zero_one, ne_zero_one]
  unfold weighted
  congr

/-- ROW `k` AT LANE `j`: the weight there, if some object other than object 0 passes the kernel's test of the lane's rule
    and the lane's mask. `qx` and `qy` are the features the lane's position words name. -/
theorem row_value (k : Fin 32) (tab : FVec Ideal S128x32 .f32) (px py : IVec S32x128 32) (deg dt xt yt : FVec Ideal S32x128 .f32)
    (msk : IVec S4096x128 8) (w : FVec Ideal S32x128 .f32) (j : Fin 128) (qx qy : Fin 32)
    (hx : (px (ix2 k j)).toInt = qx.val) (hy : (py (ix2 k j)).toInt = qy.val) :
    row k tab px py deg dt xt yt msk w (ix2 0 j)
      = weighted (∃ o : Fin 128, (kernelTest (tab (ix2 0 qx)) (tab (ix2 0 qy)) (deg (ix2 k j)) (dt (ix2 k j)) (xt (ix2 k j))
            (yt (ix2 k j)) (tab (ix2 o qx)) (tab (ix2 o qy)) ∧ 0 < o.val)
          ∧ msk (ix2 ⟨128 * k.val + j.val, by have := k.isLt; have := j.isLt; omega⟩ o) ≠ 0#8) (w (ix2 k j)) := by
  unfold row
  rw [hitRow_apply]
  simp only [ruleRow_one, dirRow_apply, stepsRow_apply, movedRow_apply, feature_apply k tab px _ j qx hx,
    feature_apply k tab py _ j qy hy, stepCos_apply, stepSin_apply, gridX_apply, gridY_apply]
  rfl

end Cert.Proof

end
-- ==== Proof.Blocks.lean ====
/- The kernel's run: what the blocks of its windows hold, and what the array it writes ends holding. -/
module

public import proofs.«01_k».proof.Proof.Gen.KernelIdeal.Frame
public import proofs.«01_k».proof.Proof.RowValue

@[expose] public section

set_option maxRecDepth 16384

noncomputable section

namespace Cert.Proof

open Idealize.ShloMosaic Idealize.ShloMosaic.TcCoe Idealize.SL Idealize.SL.Sem
open Idealize.ShloMosaic.Pipeline
open Cert.KernelIdeal Cert.KernelIdeal.Gen

variable {F : FTy → Type} [FloatOps F] (m : (ℓ : Loc nD τ sig) → Buf (Elt F) ℓ) (c : Dev nD)

/-! ## Blocks of thirty-two rows -/

/-- Row `k` of the block of grid point `t`, as a row of the whole array. -/
def rowOf (t : Fin cfg0.N) (k : Fin 32) : Fin 64 := ⟨32 * t.val + k.val, by
  have := t.isLt; have : cfg0.N = 2 := N_0; omega⟩

/-- The block of grid point `t` of an array of 64 rows. -/
def rowsOf {α : Type} (t : Fin cfg0.N) (A : S64x128.Idx → α) : S32x128.Idx → α := fun i => A (ix2 (rowOf t (i 0)) (i 1))

/-- The one grid coordinate is the point's own number, as every index map reads it. -/
theorem coord_eq (t : Fin cfg0.N) : (BitVec.ofNat 32 (grid0.coords t 0).val).toNat = t.val := by
  rcases fin_N0 t with rfl | rfl <;> decide +kernel

/-- The array index a block's index stands for, whichever of the windows of 32 rows it is. -/
theorem row_idx (t : Fin cfg0.N) (i : S32x128.Idx) (x : S64x128.Idx)
    (h0 : (x 0).val = (BitVec.ofNat 32 (grid0.coords t 0).val).toNat * 32 + 1 * (i 0).val)
    (h1 : (x 1).val = 0 * 128 + 1 * (i 1).val) : x = ix2 (rowOf t (i 0)) (i 1) := by
  rw [coord_eq] at h0
  rw [eq_ix2 x]
  refine congrArg₂ ix2 (Fin.ext ?_) (Fin.ext ?_)
  · show (x 0).val = 32 * t.val + (i 0).val
    omega
  · omega

/-- The block of the first feature positions is their rows. -/
theorem iblk_1 (t : Fin cfg0.N) : iblk m c 1 t = rowsOf t (V m c main_v3) :=
  funext fun i => congrArg (V m c main_v3) (row_idx t i _ rfl rfl)
/-- The block of the second feature positions is their rows. -/
theorem iblk_2 (t : Fin cfg0.N) : iblk m c 2 t = rowsOf t (V m c main_v6) :=
  funext fun i => congrArg (V m c main_v6) (row_idx t i _ rfl rfl)
/-- The block of the directions of movement is their rows. -/
theorem iblk_3 (t : Fin cfg0.N) : iblk m c 3 t = rowsOf t (V m c main_v7) :=
  funext fun i => congrArg (V m c main_v7) (row_idx t i _ rfl rfl)
/-- The block of the rules' directions is their rows. -/
theorem iblk_4 (t : Fin cfg0.N) : iblk m c 4 t = rowsOf t (V m c main_v8) :=
  funext fun i => congrArg (V m c main_v8) (row_idx t i _ rfl rfl)
/-- The block of the rules' first distances is their rows. -/
theorem iblk_5 (t : Fin cfg0.N) : iblk m c 5 t = rowsOf t (V m c main_v9) :=
  funext fun i => congrArg (V m c main_v9) (row_idx t i _ rfl rfl)
/-- The block of the rules' second distances is their rows. -/
theorem iblk_6 (t : Fin cfg0.N) : iblk m c 6 t = rowsOf t (V m c main_v10) :=
  funext fun i => congrArg (V m c main_v10) (row_idx t i _ rfl rfl)
/-- The block of the weights is their rows. -/
theorem iblk_8 (t : Fin cfg0.N) : iblk m c 8 t = rowsOf t (V m c main_v12) :=
  funext fun i => congrArg (V m c main_v12) (row_idx t i _ rfl rfl)

/-- The table of features is one block: the whole of it, at every grid point. -/
theorem iblk_0 (t : Fin cfg0.N) : iblk m c 0 t = (V m c main_v0 : FVec F S128x32 .f32) := by
  refine funext fun i => congrArg (V m c main_v0) ?_
  refine funext fun a => Fin.ext ?_
  fin_cases a
  · show 0 * 128 + 1 * (i 0).val = (i 0).val
    omega
  · show 0 * 32 + 1 * (i 1).val = (i 1).val
    omega

/-- The mask's block of grid point `t` holds the 4096 rules from `4096 * t` on. -/
theorem iblk_7_apply (t : Fin cfg0.N) (r : Fin 4096) (o : Fin 128) :
    (iblk m c 7 t : IVec S4096x128 8) (ix2 r o) = (V m c main_v11 : IVec S8192x128 8)
      (ix2 ⟨4096 * t.val + r.val, by have := t.isLt; have : cfg0.N = 2 := N_0; omega⟩ o) := by
  refine congrArg (V m c main_v11) ?_
  refine funext fun a => Fin.ext ?_
  fin_cases a
  · show (BitVec.ofNat 32 (grid0.coords t 0).val).toNat * 4096 + 1 * r.val = 4096 * t.val + r.val
    rw [coord_eq]; omega
  · show 0 * 128 + 1 * o.val = o.val
    omega

/-! ## The array the kernel writes -/

/-- What grid point `t` stores. -/
def block (t : Fin cfg0.N) : FVec F S32x128 .f32 :=
  stored (iblk m c 0 t) (iblk m c 1 t) (iblk m c 2 t) (iblk m c 3 t) (iblk m c 4 t) (iblk m c 5 t) (iblk m c 6 t)
    (iblk m c 7 t) (iblk m c 8 t)

/-- Row `r` of the result array: row `r % 32` of what grid point `r / 32` stores. -/
def written : FVec F S64x128 .f32 := fun i =>
  block m c ⟨(i 0).val / 32, by have : (i 0).val < 64 := (i 0).isLt; have : cfg0.N = 2 := N_0; omega⟩
    (ix2 ⟨(i 0).val % 32, Nat.mod_lt _ (by decide)⟩ (i 1))

/-- At the rows of grid point `t` the result array is what `t` stores. -/
theorem written_rows (t : Fin cfg0.N) : rowsOf t (written m c) = block m c t := by
  funext i
  have hk : (i 0).val < 32 := (i 0).isLt
  have hN : cfg0.N = 2 := N_0
  have e1 : (⟨(32 * t.val + (i 0).val) / 32, by have := t.isLt; omega⟩ : Fin cfg0.N) = t := Fin.ext (by dsimp only; omega)
  have e2 : (⟨(32 * t.val + (i 0).val) % 32, Nat.mod_lt _ (by decide)⟩ : Fin 32) = i 0 := Fin.ext (by dsimp only; omega)
  show block m c ⟨(32 * t.val + (i 0).val) / 32, _⟩ (ix2 ⟨(32 * t.val + (i 0).val) % 32, _⟩ (i 1)) = _
  rw [e1, e2, ← eq_ix2 i]

/-- What grid point `t` writes back is its rows of the result array. -/
theorem flushed_eq (t : Fin cfg0.N) :
    (dats m 0 c).flushed 9 t = ((cfg0.win 9).blk t).view.read (Elt F) (written m c) := by
  show (cfg0.win 9).cut (grid0.coords t) ((dats m 0 c).after 9 t) = _
  rw [after0_9, out0_9_stored]
  show block m c t = _
  rw [← written_rows]
  exact funext fun i => congrArg (written m c) (row_idx t i _ rfl rfl).symm

/-- The two blocks cover the result array. -/
theorem cover (i : S64x128.Idx) :
    ∃ t : Fin cfg0.N, (cfg0.win 9).flush t = true ∧ i ∈ ((cfg0.win 9).blk t).view.set := by
  have h0 : (i 0).val < 64 := (i 0).isLt
  have h1 : (i 1).val < 128 := (i 1).isLt
  have hN : cfg0.N = 2 := N_0
  obtain ⟨t, ht⟩ : ∃ t : Fin cfg0.N, t.val = (i 0).val / 32 := ⟨⟨(i 0).val / 32, by omega⟩, rfl⟩
  refine ⟨t, flush0_9 _, ?_⟩
  show i ∈ ((View.whole main_v13).slice (win0_9.rect t)).set
  rw [View.set_slice_whole, Rect.mem_set_unit]
  intro a
  fin_cases a
  · show (BitVec.ofNat 32 (grid0.coords t 0).val).toNat * 32 ≤ (i 0).val
      ∧ (i 0).val < (BitVec.ofNat 32 (grid0.coords t 0).val).toNat * 32 + 32
    rw [coord_eq]; omega
  · show 0 * 128 ≤ (i 1).val ∧ (i 1).val < 0 * 128 + 128
    omega

/-- So the result array ends holding the stored rows. -/
theorem final_written : (dats m 0 c).arrAt 9 cfg0.N = written m c :=
  (dats m 0 c).arrAt_eq_of_cover 9 (written m c) (fun t _ => flushed_eq m c t) cover

end Cert.Proof

end
-- ==== Proof.Result.lean ====
/- The kernel's result, element by element, in terms of its arguments. -/
module

public import proofs.«01_k».proof.Proof.Blocks

@[expose] public section

set_option maxRecDepth 16384

noncomputable section

namespace Cert.Proof

open Idealize.ShloMosaic Idealize.ShloMosaic.TcCoe Idealize.SL Idealize.SL.Sem
open Idealize.ShloMosaic.Pipeline
open Cert.KernelIdeal Cert.KernelIdeal.Gen

variable {F : FTy → Type} [FloatOps F] (m : (ℓ : Loc nD τ sig) → Buf (Elt F) ℓ) (c : Dev nD)

/-! ## The arrays as the kernel finds them -/

/-- A vector of 8192 elements as 64 rows of 128. -/
def folded {α : Type} (A : S8192.Idx → α) : S64x128.Idx → α := shapeCast S64x128 A shapeCasts_S8192_S64x128

/-- Column `a` of the rules' feature positions, as 64 rows of 128. -/
def column (a : Nat) (h : S8192x2.Slices ![0, a] S8192x1) (p : IVec S8192x2 32) : IVec S64x128 32 :=
  folded (shapeCast S8192 (extractStridedSlice S8192x1 ![0, a] p h) shapeCasts_S8192x1_S8192)

/-- What the host's operations leave for the kernel: the table of the one environment's objects; the two columns of
    feature positions, the directions of movement, the rules' directions, their two distances and their weights, each
    folded into rows; and the mask, each bit widened to a byte. -/
theorem V_arrays :
    (V m c main_v0 : FVec F S128x32 .f32) = shapeCast S128x32 (m ((c : Thread nD τ).loc main_arg0)) shapeCasts_S1x128x32_S128x32
    ∧ V m c main_v3 = column 0 slices_S8192x2_S8192x1_0_0 (m ((c : Thread nD τ).loc main_arg1))
    ∧ V m c main_v6 = column 1 slices_S8192x2_S8192x1_0_1 (m ((c : Thread nD τ).loc main_arg1))
    ∧ V m c main_v7 = folded (m ((c : Thread nD τ).loc main_arg2))
    ∧ V m c main_v8 = folded (m ((c : Thread nD τ).loc main_arg3))
    ∧ V m c main_v9 = folded (m ((c : Thread nD τ).loc main_arg4))
    ∧ V m c main_v10 = folded (m ((c : Thread nD τ).loc main_arg5))
    ∧ (V m c main_v11 : IVec S8192x128 8) = extui 8 (m ((c : Thread nD τ).loc main_arg6)) natLt_1_8
    ∧ V m c main_v12 = folded (m ((c : Thread nD τ).loc main_arg7)) := by
  refine ⟨?_, ?_, ?_, ?_, ?_, ?_, ?_, ?_, ?_⟩ <;>
  · show StableHlo.after _ _ _ = _
    simp only [List.flatten_cons, List.flatten_nil, List.append_nil]
    after_results_simp
    try rfl

/-! ## The same, element by element -/

/-- Rule number `128 * (32 * t + k) + j`: the one that lane `j` of row `k` of grid point `t` computes. -/
def ruleOf (t : Fin cfg0.N) (k : Fin 32) (j : Fin 128) : Fin 8192 := ⟨128 * (32 * t.val + k.val) + j.val, by
  have := t.isLt; have : cfg0.N = 2 := N_0; omega⟩

/-- Every rule is some lane's. -/
theorem exists_rule (b : Fin 8192) : ∃ t k j, b = ruleOf t k j := by
  have hN : cfg0.N = 2 := N_0
  exact ⟨⟨b.val / 4096, by omega⟩, ⟨b.val / 128 % 32, by omega⟩, ⟨b.val % 128, by omega⟩, Fin.ext (by unfold ruleOf; dsimp only; omega)⟩

/-- A folded vector at a lane is the vector at the lane's rule. -/
theorem folded_apply {α : Type} (A : S8192.Idx → α) (t : Fin cfg0.N) (k : Fin 32) (j : Fin 128) :
    rowsOf t (folded A) (ix2 k j) = A (ix1 (ruleOf t k j)) := by
  show folded A (ix2 (rowOf t k) j) = _
  unfold folded
  pointwise
  exact congrArg (fun r => A (ix1 r)) (Fin.ext (by unfold rowOf ruleOf; dsimp only; omega))

/-- Unfolded again, rows at a rule are the rows at the rule's lane. -/
theorem unfolded_apply {α : Type} (A : S64x128.Idx → α) (t : Fin cfg0.N) (k : Fin 32) (j : Fin 128) :
    shapeCast S8192 A shapeCasts_S64x128_S8192 (ix1 (ruleOf t k j)) = rowsOf t A (ix2 k j) := by
  show _ = A (ix2 (rowOf t k) j)
  pointwise
  refine congrArg₂ (fun r l => A (ix2 r l)) (Fin.ext ?_) (Fin.ext ?_) <;> (simp only [rowOf, ruleOf]; omega)

/-- A column of the feature positions at a lane is the lane's rule's position. -/
theorem column_apply (a : Fin 2) (h : S8192x2.Slices ![0, a.val] S8192x1) (p : IVec S8192x2 32) (t : Fin cfg0.N) (k : Fin 32)
    (j : Fin 128) : rowsOf t (column a.val h p) (ix2 k j) = p (ix2 (ruleOf t k j) a) := by
  unfold column
  rw [folded_apply]
  pointwise

/-- The table of features is the one environment's. -/
theorem table_apply {α : Type} (x : S1x128x32.Idx → α) (o : Fin 128) (q : Fin 32) :
    shapeCast S128x32 x shapeCasts_S1x128x32_S128x32 (ix2 o q) = x (ix3 0 o q) := by
  pointwise

/-- The widened mask at an object is set exactly when the mask is. -/
theorem widened_ne (x : IVec S8192x128 1) (i : S8192x128.Idx) : extui 8 x natLt_1_8 i ≠ 0#8 ↔ x i = 1#1 := by
  show (x i).zeroExtend 8 ≠ 0#8 ↔ _
  generalize x i = a
  revert a; decide

/-! ## The result -/

/-- The kernel's result at rule `b`: the rule's weight when some object other than object 0 passes the kernel's test and
    is in the rule's mask, and 0 otherwise. -/
theorem kernel_apply (m : (ℓ : Loc nD τ sig) → Buf (Elt Ideal) ℓ) (c : Dev nD)
    (x : FVec Ideal S1x128x32 .f32) (p : IVec S8192x2 32) (deg dt xt yt : FVec Ideal S8192 .f32) (msk : IVec S8192x128 1)
    (w : FVec Ideal S8192 .f32)
    (h0 : m ((c : Thread nD τ).loc main_arg0) = x) (h1 : m ((c : Thread nD τ).loc main_arg1) = p)
    (h2 : m ((c : Thread nD τ).loc main_arg2) = deg) (h3 : m ((c : Thread nD τ).loc main_arg3) = dt)
    (h4 : m ((c : Thread nD τ).loc main_arg4) = xt) (h5 : m ((c : Thread nD τ).loc main_arg5) = yt)
    (h6 : m ((c : Thread nD τ).loc main_arg6) = msk) (h7 : m ((c : Thread nD τ).loc main_arg7) = w)
    (b : Fin 8192) (qx qy : Fin 32) (hx : (p (ix2 b 0)).toInt = qx.val) (hy : (p (ix2 b 1)).toInt = qy.val) :
    shapeCast S8192 (written m c) shapeCasts_S64x128_S8192 (ix1 b)
      = weighted (∃ o : Fin 128, (kernelTest (x (ix3 0 0 qx)) (x (ix3 0 0 qy)) (deg (ix1 b)) (dt (ix1 b)) (xt (ix1 b)) (yt (ix1 b))
          (x (ix3 0 o qx)) (x (ix3 0 o qy)) ∧ 0 < o.val) ∧ msk (ix2 b o) = 1#1) (w (ix1 b)) := by
  obtain ⟨t, k, j, rfl⟩ := exists_rule b
  obtain ⟨v0, v3, v6, v7, v8, v9, v10, v11, v12⟩ := V_arrays m c
  rw [h0] at v0; rw [h1] at v3 v6; rw [h2] at v7; rw [h3] at v8; rw [h4] at v9; rw [h5] at v10; rw [h6] at v11; rw [h7] at v12
  have ex : (rowsOf t (column 0 slices_S8192x2_S8192x1_0_0 p) (ix2 k j)).toInt = qx.val :=
    (congrArg BitVec.toInt (column_apply 0 _ p t k j)).trans hx
  have ey : (rowsOf t (column 1 slices_S8192x2_S8192x1_0_1 p) (ix2 k j)).toInt = qy.val :=
    (congrArg BitVec.toInt (column_apply 1 _ p t k j)).trans hy
  rw [unfolded_apply, written_rows]
  unfold block
  rw [iblk_0, iblk_1, iblk_2, iblk_3, iblk_4, iblk_5, iblk_6, iblk_8, v0, v3, v6, v7, v8, v9, v10, v12, stored_apply, row_value k _ _ _ _ _ _ _ _ _ j qx qy ex ey]
  simp only [folded_apply, table_apply]
  have hm : ∀ o : Fin 128, (iblk m c 7 t : IVec S4096x128 8) (ix2 ⟨128 * k.val + j.val, by omega⟩ o) ≠ 0#8
      ↔ msk (ix2 (ruleOf t k j) o) = 1#1 := by
    intro o
    rw [iblk_7_apply, v11, widened_ne]
    have e : (⟨4096 * t.val + (128 * k.val + j.val), by have := t.isLt; have : cfg0.N = 2 := N_0; omega⟩ : Fin 8192) = ruleOf t k j :=
      Fin.ext (by unfold ruleOf; dsimp only; omega)
    rw [e]
  simp only [hm]

/-! ## The run -/

/-- What the lines after the kernel leave in the result: the array the kernel wrote, unfolded. -/
theorem tail_result (m : (ℓ : Loc nD τ sig) → Buf (Elt F) ℓ) (c : Dev nD) :
    Pipeline.afterTail₀ cfgs (dats m) 0 (V0 m) [hostOps1] c main_v14
      = shapeCast S8192 (written m c) shapeCasts_S64x128_S8192 := by
  unfold Pipeline.afterTail₀
  simp only [List.flatten_cons, List.flatten_nil, List.append_nil]
  after_results_simp
  rw [show withArrays (cfgs 0).spec c (V0 m c) (fun w => (dats m 0 c).arrAt w (cfgs 0).N) (Proc.tc.devRef main_v13)
      = written m c from (Pipeline.withArrays_arr spec0 (by decide) c (V0 m c) _ 9).trans (final_written m c)]
  rfl

/-- From any memory with zero counters the program ends with its result at the array the kernel wrote, unfolded, and its
    arguments unchanged. -/
theorem kernel_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = shapeCast S8192 (written m c) shapeCasts_S64x128_S8192
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨((h.1 c).2 main_v14 (Pipeline.mem_restRefs_of main_v14 (by decide) (by decide))).trans (tail_result m c), h.2 c⟩)
    (θ_run_and (run_main m ρ) (unchanged m ρ))

end Cert.Proof

end
-- ==== Proof.Gather.lean ====
/- One element per batch row out of a box: `box[b, :, col[b]]`, the gather the reference's `x[idx, :, p]` prints,
   read at an index. -/
module

public import Idealize.ShloMosaic.Lib.Pointwise

@[expose] public section

namespace Cert.Proof

open Idealize.ShloMosaic

section Gather
variable {α : Type}

/-- The dimension numbers of `box[row, :, col]` for a box `[N, n, C]` and pairs `(row, col)` as an `[N, 2]` array: the
    middle axis is kept whole, the other two are picked by the pair. -/
abbrev pickDims (N n C : Nat) (wf : GatherDims.WF ⟨3, ![N, n, C]⟩ ⟨2, ![N, 2]⟩ ⟨2, ![N, n]⟩ [1] [0, 2] [] [0, 2] [] 1 ![1, n, 1]) :
    GatherDims ⟨3, ![N, n, C]⟩ ⟨2, ![N, 2]⟩ ⟨2, ![N, n]⟩ where
  offsetDims := [1]
  collapsedSliceDims := [0, 2]
  operandBatchingDims := []
  startIndicesBatchingDims := []
  startIndexMap := [0, 2]
  indexVectorDim := 1
  sliceSizes := ![1, n, 1]
  wf := wf

/-- The start-index array is read at row `b`, component `k`, for the result element `(b, o)`. -/
theorem pickDims_siIdx {N n C : Nat} (wf) (b : Fin N) (o : Fin n) (k : Fin 2) (h : k.val < (pickDims N n C wf).startIndexMap.length) :
    (pickDims N n C wf).siIdx (ix2 b o) ⟨k.val, h⟩ = ix2 b k := by
  funext a
  refine Fin.ext ?_
  match a with
  | ⟨0, _⟩ => rfl
  | ⟨1, _⟩ => rfl

/-- The gather at `(b, o)` is the box at the pair `(r, q)` that row `b` holds, whenever that pair lies in the box. -/
theorem gather_pick {N n C w : Nat} (wf) (x : (⟨3, ![N, n, C]⟩ : Shape).Idx → α) (idx : IVec ⟨2, ![N, 2]⟩ w) (b : Fin N) (o : Fin n)
    (r : Fin N) (q : Fin C) (hr : (idx (ix2 b 0)).toInt = r.val) (hq : (idx (ix2 b 1)).toInt = q.val) :
    Host.gather (pickDims N n C wf) x idx (ix2 b o) = x (ix3 r o q) := by
  unfold Host.gather
  congr 1
  funext a
  refine Fin.ext ?_
  show (pickDims N n C wf).start (ix2 b o) idx a + (pickDims N n C wf).batchCoord (ix2 b o) a
      + (pickDims N n C wf).offCoord (ix2 b o) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (by simp))]
    unfold GatherDims.start
    rw [dif_pos (show (0 : Fin 3) ∈ (pickDims N n C wf).startIndexMap from by simp)]
    have hs := pickDims_siIdx wf b o 0 (by simp)
    have hb := r.isLt
    show min (idx ((pickDims N n C wf).siIdx (ix2 b o) ⟨((0 : Fin 2) : Nat), _⟩)).toInt.toNat (N - 1) + 0 + 0 = r.val
    rw [hs, hr]
    omega
  · unfold GatherDims.start
    rw [dif_neg (show (1 : Fin 3) ∉ (pickDims N n C wf).startIndexMap from by simp)]
    unfold GatherDims.offCoord
    rw [dif_pos (by simp [GatherDims.sKept, Shape.kept])]
    show 0 + 0 + o.val = o.val
    omega
  · rw [GatherDims.offCoord_eq_zero _ _ _ (fun h => ((GatherDims.mem_sKept _ _).mp h).1 (by simp))]
    unfold GatherDims.start
    rw [dif_pos (show (2 : Fin 3) ∈ (pickDims N n C wf).startIndexMap from by simp)]
    have hs := pickDims_siIdx wf b o 1 (by simp)
    have hb := q.isLt
    show min (idx ((pickDims N n C wf).siIdx (ix2 b o) ⟨((1 : Fin 2) : Nat), _⟩)).toInt.toNat (C - 1) + 0 + 0 = q.val
    rw [hs, hq]
    omega

end Gather

end Cert.Proof

end
-- ==== Proof.RefValue.lean ====
/- What the reference computes, over the extended reals, rule by rule. -/
module

public import proofs.«01_k».proof.Proof.Gen.ReferenceIdeal.Run
public import proofs.«01_k».proof.Proof.Gather
public import proofs.«01_k».proof.Proof.Cell
public import Idealize.ShloMosaic.Lib.StableHlo.Predicate

@[expose] public section

set_option maxRecDepth 16384

noncomputable section

namespace Cert.Proof.Ref

open Idealize.ShloMosaic Idealize.SL.Sem Cert.ReferenceIdeal Cert.ReferenceIdeal.Gen Cert.ReferenceIdeal.Value

variable {F : FTy → Type} [FloatOps F]

/-- A negative index of an axis of extent `n` counted from the end. -/
def wrapped (n : BitVec 32) (v : IVec S8192 32) : IVec S8192 32 :=
  select (cmpi .slt v (broadcastInDim S8192 ![] bcast_S_S8192 (constantI S_ 32 0#32)))
    (addi v (broadcastInDim S8192 ![] bcast_S_S8192 (constantI S_ 32 n))) v

/-- The pairs (rule, feature) the reference gathers at, for a vector of feature numbers. -/
def pairs (q : IVec S8192 32) : IVec S8192x2 32 :=
  concatenate S8192x2 1 [⟨S8192x1, broadcastInDim S8192x1 ![0] bcast_S8192_S8192x1_0 (wrapped 8192#32 (iotaInDim S8192 32 0))⟩,
    ⟨S8192x1, broadcastInDim S8192x1 ![0] bcast_S8192_S8192x1_0 (wrapped 32#32 q)⟩] concatenates_S8192x1_S8192x1_S8192x2_d1

/-- The first feature number of every rule. -/
def featX (p : IVec S8192x2 32) : IVec S8192 32 :=
  shapeCast S8192 (extractStridedSlice S8192x1 ![0, 0] p slices_S8192x2_S8192x1_0_0) shapeCasts_S8192x1_S8192

/-- The second feature number of every rule. -/
def featY (p : IVec S8192x2 32) : IVec S8192 32 :=
  shapeCast S8192 (extractStridedSlice S8192x1 ![0, 1] p slices_S8192x2_S8192x1_0_1) shapeCasts_S8192x1_S8192

/-- The feature table repeated for every rule. -/
def table (x : FVec F S1x128x32 .f32) : FVec F S8192x128x32 .f32 :=
  shapeCast S8192x128x32 (broadcastInDim S1x8192x128x32 ![0, 2, 3] bcast_S1x128x32_S1x8192x128x32_0_2_3 x)
    shapeCasts_S1x8192x128x32_S8192x128x32

/-- A feature of object 0, for every rule. -/
def first (x : FVec F S1x128x32 .f32) (q : IVec S8192 32) : FVec F S8192x1 .f32 :=
  Host.gather gather_S8192x1x32_S8192x2_S8192x1_1_02_n_n_02_1_111
    (extractStridedSlice S8192x1x32 ![0, 0, 0] (table x) slices_S8192x128x32_S8192x1x32_0_0_0) (pairs q)

/-- A feature of the other objects, for every rule. -/
def others (x : FVec F S1x128x32 .f32) (q : IVec S8192 32) : FVec F S8192x127 .f32 :=
  Host.gather gather_S8192x127x32_S8192x2_S8192x127_1_02_n_n_02_1_11271
    (extractStridedSlice S8192x127x32 ![0, 1, 0] (table x) slices_S8192x128x32_S8192x127x32_0_1_0) (pairs q)

/-- The step of every rule. -/
def step (deg : FVec F S8192 .f32) : FVec F S8192x2 .f32 :=
  mulf (concatenate S8192x2 1 [⟨S8192x1, broadcastInDim S8192x1 ![0] bcast_S8192_S8192x1_0
      (Host.cos (mulf deg (broadcastInDim S8192 ![] bcast_S_S8192 (constant S_ .f32 0x3C8EFA35#32))))⟩,
    ⟨S8192x1, broadcastInDim S8192x1 ![0] bcast_S8192_S8192x1_0
      (Host.sin (mulf deg (broadcastInDim S8192 ![] bcast_S_S8192 (constant S_ .f32 0x3C8EFA35#32))))⟩]
      concatenates_S8192x1_S8192x1_S8192x2_d1)
    (broadcastInDim S8192x2 ![] bcast_S_S8192x2 (constant S_ .f32 0x3D4CCCCD#32))

/-- Object 0's position moved by the step. -/
def movedFirst (ax ay : FVec F S8192x1 .f32) (st : FVec F S8192x2 .f32) : FVec F S8192x1x2 .f32 :=
  addf (concatenate S8192x1x2 2 [⟨S8192x1x1, broadcastInDim S8192x1x1 ![0, 1] bcast_S8192x1_S8192x1x1_0_1 ax⟩,
      ⟨S8192x1x1, broadcastInDim S8192x1x1 ![0, 1] bcast_S8192x1_S8192x1x1_0_1 ay⟩] concatenates_S8192x1x1_S8192x1x1_S8192x1x2_d2)
    (broadcastInDim S8192x1x2 ![0, 2] bcast_S8192x2_S8192x1x2_0_2 st)

/-- The other objects' positions. -/
def positions (bx by' : FVec F S8192x127 .f32) : FVec F S8192x127x2 .f32 :=
  concatenate S8192x127x2 2 [⟨S8192x127x1, broadcastInDim S8192x127x1 ![0, 1] bcast_S8192x127_S8192x127x1_0_1 bx⟩,
    ⟨S8192x127x1, broadcastInDim S8192x127x1 ![0, 1] bcast_S8192x127_S8192x127x1_0_1 by'⟩]
    concatenates_S8192x127x1_S8192x127x1_S8192x127x2_d2

/-- The moved object 0, beside every other object. -/
def spread (mv : FVec F S8192x1x2 .f32) : FVec F S8192x127x2 .f32 :=
  broadcastInDim S8192x127x2 ![0, 1, 2] bcast_S8192x1x2_S8192x127x2_0_1_2 mv

/-- The distances to the other objects, rounded to whole steps. -/
def distances (mv pos : FVec F S8192x127x2 .f32) : FVec F S8192x127x2 .f32 :=
  mulf (Host.roundeven (Host.divf (Host.absf (subf mv pos))
      (broadcastInDim S8192x127x2 ![] bcast_S_S8192x127x2 (constant S_ .f32 0x3D4CCCCD#32))))
    (broadcastInDim S8192x127x2 ![] bcast_S_S8192x127x2 (constant S_ .f32 0x3D4CCCCD#32))

/-- First components of a box of pairs. -/
def fstOf (d : FVec F S8192x127x2 .f32) : FVec F S8192x127 .f32 :=
  shapeCast S8192x127 (extractStridedSlice S8192x127x1 ![0, 0, 0] d slices_S8192x127x2_S8192x127x1_0_0_0) shapeCasts_S8192x127x1_S8192x127

/-- Second components of a box of pairs. -/
def sndOf (d : FVec F S8192x127x2 .f32) : FVec F S8192x127 .f32 :=
  shapeCast S8192x127 (extractStridedSlice S8192x127x1 ![0, 0, 1] d slices_S8192x127x2_S8192x127x1_0_0_1) shapeCasts_S8192x127x1_S8192x127

/-- The directions of the other objects, in whole eighths of a turn. -/
def directions (d : FVec F S8192x127x2 .f32) : FVec F S8192x127 .f32 :=
  Host.roundeven (Host.divf (mulf (Host.atan2 (sndOf d) (fstOf d))
      (broadcastInDim S8192x127 ![] bcast_S_S8192x127 (constant S_ .f32 0x42652EE1#32)))
    (broadcastInDim S8192x127 ![] bcast_S_S8192x127 (constant S_ .f32 0x42340000#32)))

/-- One number per rule, beside every other object. -/
def beside (v : FVec F S8192 .f32) : FVec F S8192x127 .f32 :=
  broadcastInDim S8192x127 ![0, 1] bcast_S8192x1_S8192x127_0_1 (broadcastInDim S8192x1 ![0] bcast_S8192_S8192x1_0 v)

/-- Which objects pass which rule. -/
def passes (dirs : FVec F S8192x127 .f32) (dist : FVec F S8192x127x2 .f32) (dt xt yt : FVec F S8192 .f32) (msk : IVec S8192x128 1) :
    IVec S8192x127 1 :=
  andi (andi (andi (cmpf .oeq dirs (beside dt)) (cmpf .oeq (fstOf dist) (beside xt))) (cmpf .oeq (sndOf dist) (beside yt)))
    (extractStridedSlice S8192x127 ![0, 1] msk slices_S8192x128_S8192x127_0_1)

/-- The weights of the rules some object passes. -/
def chosen (ok : IVec S8192x127 1) (w : FVec F S8192 .f32) : FVec F S8192 .f32 :=
  mulf (uitofp .f32 (id (cmpi .ne (Host.reduce IntOp.addi (extui 32 ok natLt_1_32) (constantI S_ 32 0#32)
    reducesTo_S8192x127_S8192_d1 h_S_) (broadcastInDim S8192 ![] bcast_S_S8192 (constantI S_ 32 0#32))))) w

/-- The reference's result, from its arguments. -/
def result (x : FVec F S1x128x32 .f32) (p : IVec S8192x2 32) (deg dt xt yt : FVec F S8192 .f32) (msk : IVec S8192x128 1)
    (w : FVec F S8192 .f32) : FVec F S8192 .f32 :=
  chosen (passes
    (directions (subf (positions (others x (featX p)) (others x (featY p)))
      (spread (movedFirst (first x (featX p)) (first x (featY p)) (step deg)))))
    (distances (spread (movedFirst (first x (featX p)) (first x (featY p)) (step deg)))
      (positions (others x (featX p)) (others x (featY p))))
    dt xt yt msk) w

/-- The program's result is that function of its arguments. -/
theorem res_eq (m : (ℓ : Loc nD τ sig) → Buf (Elt F) ℓ) (c : Dev nD) :
    res_out0 m c = result (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := rfl

/-! ## The result at one rule -/

/-- An index that is not negative is not wrapped. -/
theorem wrapped_apply (n : BitVec 32) (v : IVec S8192 32) (b : Fin 8192) (h : 0 ≤ (v (ix1 b)).toInt) :
    wrapped n v (ix1 b) = v (ix1 b) := by
  have h0 : IntOp.cmpi .slt (v (ix1 b)) 0#32 = 0#1 := by
    show BitVec.ofBool ((v (ix1 b)).slt 0#32) = 0#1
    rw [BitVec.slt_eq_decide, decide_eq_false (by simpa using h)]
    rfl
  pointwise [wrapped]
  rw [h0]
  rfl

/-- The rule numbers, as words. -/
theorem iota_toInt (b : Fin 8192) : (BitVec.ofNat 32 b.val).toInt = b.val := by
  have := b.isLt
  rw [BitVec.toInt_eq_toNat_of_lt (by rw [BitVec.toNat_ofNat]; omega), BitVec.toNat_ofNat]
  omega

/-- The pair of rule `b` starts with `b`. -/
theorem pairs_fst (q : IVec S8192 32) (b : Fin 8192) : (pairs q (ix2 b 0)).toInt = b.val := by
  have h : pairs q (ix2 b 0) = wrapped 8192#32 (iotaInDim S8192 32 0) (ix1 b) := by pointwise [pairs]
  have hi : (iotaInDim S8192 32 0) (ix1 b) = BitVec.ofNat 32 b.val := rfl
  rw [h, wrapped_apply _ _ _ (by rw [hi, iota_toInt]; exact Int.natCast_nonneg _), hi, iota_toInt]

/-- The pair of rule `b` ends with its feature number, if that is not negative. -/
theorem pairs_snd (q : IVec S8192 32) (b : Fin 8192) (f : Fin 32) (h : (q (ix1 b)).toInt = f.val) :
    (pairs q (ix2 b 1)).toInt = f.val := by
  have e : pairs q (ix2 b 1) = wrapped 32#32 q (ix1 b) := by pointwise [pairs]
  rw [e, wrapped_apply _ _ _ (by rw [h]; exact Int.natCast_nonneg _), h]

/-- Rule `b`'s first feature number. -/
theorem featX_apply (p : IVec S8192x2 32) (b : Fin 8192) : featX p (ix1 b) = p (ix2 b 0) := by
  pointwise [featX]

/-- Rule `b`'s second feature number. -/
theorem featY_apply (p : IVec S8192x2 32) (b : Fin 8192) : featY p (ix1 b) = p (ix2 b 1) := by
  pointwise [featY]

/-- The repeated table is the table. -/
theorem table_apply (x : FVec Ideal S1x128x32 .f32) (b : Fin 8192) (o : Fin 128) (f : Fin 32) :
    table x (ix3 b o f) = x (ix3 0 o f) := by
  pointwise [table]

/-- The named feature of object 0. -/
theorem first_apply (x : FVec Ideal S1x128x32 .f32) (q : IVec S8192 32) (b : Fin 8192) (f : Fin 32) (h : (q (ix1 b)).toInt = f.val) :
    first x q (ix2 b 0) = x (ix3 0 0 f) := by
  have e := gather_pick gather_S8192x1x32_S8192x2_S8192x1_1_02_n_n_02_1_111_wf
    (extractStridedSlice S8192x1x32 ![0, 0, 0] (table x) slices_S8192x128x32_S8192x1x32_0_0_0) (pairs q) b 0 b f (pairs_fst q b)
    (pairs_snd q b f h)
  refine Eq.trans e ?_
  pointwise
  rw [table_apply]

/-- The named feature of object `o + 1`. -/
theorem others_apply (x : FVec Ideal S1x128x32 .f32) (q : IVec S8192 32) (b : Fin 8192) (o : Fin 127) (f : Fin 32)
    (h : (q (ix1 b)).toInt = f.val) :
    others x q (ix2 b o) = x (ix3 0 ⟨1 + o.val, by have := o.isLt; omega⟩ f) := by
  have e := gather_pick gather_S8192x127x32_S8192x2_S8192x127_1_02_n_n_02_1_11271_wf
    (extractStridedSlice S8192x127x32 ![0, 1, 0] (table x) slices_S8192x128x32_S8192x127x32_0_1_0) (pairs q) b o b f (pairs_fst q b)
    (pairs_snd q b f h)
  refine Eq.trans e ?_
  pointwise
  rw [table_apply]

/-- Object 0's first coordinate, moved, beside object `o + 1`. -/
theorem spread_fst (ax ay : FVec Ideal S8192x1 .f32) (deg : FVec Ideal S8192 .f32) (b : Fin 8192) (o : Fin 127) :
    spread (movedFirst ax ay (step deg)) (ix3 b o 0) = movedCos (ax (ix2 b 0)) (deg (ix1 b)) := by
  pointwise [spread, movedFirst, step, movedCos]

/-- Object 0's second coordinate, moved, beside object `o + 1`. -/
theorem spread_snd (ax ay : FVec Ideal S8192x1 .f32) (deg : FVec Ideal S8192 .f32) (b : Fin 8192) (o : Fin 127) :
    spread (movedFirst ax ay (step deg)) (ix3 b o 1) = movedSin (ay (ix2 b 0)) (deg (ix1 b)) := by
  pointwise [spread, movedFirst, step, movedSin]

/-- First coordinates of the positions. -/
theorem positions_fst (bx by' : FVec Ideal S8192x127 .f32) (b : Fin 8192) (o : Fin 127) : positions bx by' (ix3 b o 0) = bx (ix2 b o) := by
  pointwise [positions]

/-- Second coordinates of the positions. -/
theorem positions_snd (bx by' : FVec Ideal S8192x127 .f32) (b : Fin 8192) (o : Fin 127) : positions bx by' (ix3 b o 1) = by' (ix2 b o) := by
  pointwise [positions]

/-- A distance is its count of steps times the step. -/
theorem distances_apply (mv pos : FVec Ideal S8192x127x2 .f32) (b : Fin 8192) (o : Fin 127) (k : Fin 2) :
    distances mv pos (ix3 b o k) = stepsBetween (mv (ix3 b o k)) (pos (ix3 b o k)) * stepLen := by
  pointwise [distances, stepsBetween]

/-- The direction of object `o + 1`. -/
theorem directions_apply (mv pos : FVec Ideal S8192x127x2 .f32) (b : Fin 8192) (o : Fin 127) :
    directions (subf pos mv) (ix2 b o)
      = directionTo (mv (ix3 b o 0)) (mv (ix3 b o 1)) (pos (ix3 b o 0)) (pos (ix3 b o 1)) := by
  pointwise [directions, fstOf, sndOf, directionTo]

/-- Object `o + 1` passes rule `b` exactly when the three equations hold and the mask's bit is set. -/
theorem passes_one (dirs : FVec Ideal S8192x127 .f32) (dist : FVec Ideal S8192x127x2 .f32) (dt xt yt : FVec Ideal S8192 .f32)
    (msk : IVec S8192x128 1) (b : Fin 8192) (o : Fin 127) :
    passes dirs dist dt xt yt msk (ix2 b o) = 1#1
      ↔ ((dirs (ix2 b o) = dt (ix1 b) ∧ dist (ix3 b o 0) = xt (ix1 b)) ∧ dist (ix3 b o 1) = yt (ix1 b))
        ∧ msk (ix2 b ⟨1 + o.val, by have := o.isLt; omega⟩) = 1#1 := by
  pointwise [passes, beside, fstOf, sndOf]
  rw [andi_one, andi_one, andi_one, bit_one, bit_one, bit_one]

/-- The weight of rule `b`, if some object passes it. -/
theorem chosen_apply (ok : IVec S8192x127 1) (w : FVec Ideal S8192 .f32) (b : Fin 8192) :
    chosen ok w (ix1 b) = weighted (∃ o : Fin 127, ok (ix2 b o) = 1#1) (w (ix1 b)) := by
  classical
  have hc := StableHlo.Predicate.toNat_reduce_count_cols (by decide) ok natLt_1_32 reducesTo_S8192x127_S8192_d1 h_S_ (ix1 b)
  have hj : ∀ o : Fin 127, (StableHlo.Predicate.ij ((ix1 b : S8192.Idx) 0) o : S8192x127.Idx) = ix2 b o := fun o => by
    funext a; fin_cases a <;> rfl
  simp only [hj] at hc
  unfold chosen
  rw [id_eq]
  pointwise
  pointwise at hc
  generalize Finset.fold IntOp.addi _ _ _ = s at hc ⊢
  have hs : s ≠ 0#32 ↔ ∃ o : Fin 127, ok (ix2 b o) = 1#1 := by
    rw [ne_eq, ← BitVec.toNat_inj, hc]
    simp [Finset.card_eq_zero, Finset.filter_eq_empty_iff]
  unfold weighted
  simp only [← hs]
  congr 1
  show (((BitVec.ofBool (s != 0#32)).toNat : ℝ) : EReal) = _
  by_cases h0 : s = 0#32 <;> simp [h0]

/-- THE REFERENCE AT RULE `b`: the weight, if some object other than object 0 passes the reference's test and the mask.
    `qx` and `qy` are the features the rule's position words name. -/
theorem result_apply (x : FVec Ideal S1x128x32 .f32) (p : IVec S8192x2 32) (deg dt xt yt : FVec Ideal S8192 .f32) (msk : IVec S8192x128 1)
    (w : FVec Ideal S8192 .f32) (b : Fin 8192) (qx qy : Fin 32) (hx : (p (ix2 b 0)).toInt = qx.val) (hy : (p (ix2 b 1)).toInt = qy.val) :
    result x p deg dt xt yt msk w (ix1 b)
      = weighted (∃ o : Fin 127, referenceTest (x (ix3 0 0 qx)) (x (ix3 0 0 qy)) (deg (ix1 b)) (dt (ix1 b)) (xt (ix1 b)) (yt (ix1 b))
            (x (ix3 0 ⟨1 + o.val, by have := o.isLt; omega⟩ qx)) (x (ix3 0 ⟨1 + o.val, by have := o.isLt; omega⟩ qy))
          ∧ msk (ix2 b ⟨1 + o.val, by have := o.isLt; omega⟩) = 1#1) (w (ix1 b)) := by
  have hx' : (featX p (ix1 b)).toInt = qx.val := by rw [featX_apply, hx]
  have hy' : (featY p (ix1 b)).toInt = qy.val := by rw [featY_apply, hy]
  unfold result
  rw [chosen_apply]
  simp only [passes_one, directions_apply, distances_apply, spread_fst, spread_snd, positions_fst, positions_snd,
    first_apply x _ b qx hx', first_apply x _ b qy hy', others_apply x _ b _ qx hx', others_apply x _ b _ qy hy']
  rfl

end Cert.Proof.Ref

end
-- ==== Proof.Equation.lean ====
/- The kernel's result is the reference's, on arguments that meet the precondition. -/
module

public import proofs.«01_k».proof.Proof.Pre
public import proofs.«01_k».proof.Proof.Result
public import proofs.«01_k».proof.Proof.RefValue

@[expose] public section

set_option maxRecDepth 16384

noncomputable section

namespace Cert.Proof

open Idealize.ShloMosaic Idealize.ShloMosaic.TcCoe Idealize.SL.Sem

/-- "Some object other than object 0 of 128" is "some object of the 127 after it". -/
theorem exists_after_zero (P : Fin 128 → Prop) :
    (∃ o : Fin 128, 0 < o.val ∧ P o) ↔ ∃ o : Fin 127, P ⟨1 + o.val, by omega⟩ := by
  constructor
  · rintro ⟨o, ho, h⟩
    exact ⟨⟨o.val - 1, by omega⟩, by
      have e : (⟨1 + (o.val - 1), by omega⟩ : Fin 128) = o := Fin.ext (by dsimp only; omega)
      dsimp only
      rw [e]; exact h⟩
  · rintro ⟨o, h⟩
    exact ⟨_, by dsimp only; omega, h⟩

/-- On arguments that meet the precondition the array the kernel writes, unfolded, is the reference's result. -/
theorem kernel_eq_reference (m : (ℓ : Loc Cert.KernelIdeal.nD Cert.KernelIdeal.τ Cert.KernelIdeal.sig) → Buf (Elt Ideal) ℓ)
    (c : Dev Cert.KernelIdeal.nD) (x : FVec Ideal Cert.KernelIdeal.S1x128x32 .f32) (p : IVec Cert.KernelIdeal.S8192x2 32)
    (deg dt xt yt : FVec Ideal Cert.KernelIdeal.S8192 .f32) (msk : IVec Cert.KernelIdeal.S8192x128 1)
    (w : FVec Ideal Cert.KernelIdeal.S8192 .f32)
    (h0 : m ((c : Thread Cert.KernelIdeal.nD Cert.KernelIdeal.τ).loc Cert.KernelIdeal.main_arg0) = x)
    (h1 : m ((c : Thread Cert.KernelIdeal.nD Cert.KernelIdeal.τ).loc Cert.KernelIdeal.main_arg1) = p)
    (h2 : m ((c : Thread Cert.KernelIdeal.nD Cert.KernelIdeal.τ).loc Cert.KernelIdeal.main_arg2) = deg)
    (h3 : m ((c : Thread Cert.KernelIdeal.nD Cert.KernelIdeal.τ).loc Cert.KernelIdeal.main_arg3) = dt)
    (h4 : m ((c : Thread Cert.KernelIdeal.nD Cert.KernelIdeal.τ).loc Cert.KernelIdeal.main_arg4) = xt)
    (h5 : m ((c : Thread Cert.KernelIdeal.nD Cert.KernelIdeal.τ).loc Cert.KernelIdeal.main_arg5) = yt)
    (h6 : m ((c : Thread Cert.KernelIdeal.nD Cert.KernelIdeal.τ).loc Cert.KernelIdeal.main_arg6) = msk)
    (h7 : m ((c : Thread Cert.KernelIdeal.nD Cert.KernelIdeal.τ).loc Cert.KernelIdeal.main_arg7) = w)
    (hpre : Cert.Pre_drawn.fn (F := Ideal) x p deg dt xt yt msk w = fun _ => 1#1) :
    shapeCast Cert.KernelIdeal.S8192 (written m c) Cert.KernelIdeal.Facts₀.shapeCasts_S64x128_S8192
      = Ref.result (F := Ideal) x p deg dt xt yt msk w := by
  funext i
  obtain ⟨b, rfl⟩ : ∃ b : Fin 8192, i = ix1 b := ⟨i 0, eq_ix1 i⟩
  obtain ⟨hp, hxt, hyt⟩ := Pre.drawn_apply x p deg dt xt yt msk w hpre b
  obtain ⟨qx, hx⟩ := hp 0
  obtain ⟨qy, hy⟩ := hp 1
  rw [kernel_apply m c x p deg dt xt yt msk w h0 h1 h2 h3 h4 h5 h6 h7 b qx qy hx hy,
    Ref.result_apply x p deg dt xt yt msk w b qx qy hx hy]
  refine congrArg (weighted · _) (propext ?_)
  rw [← exists_after_zero (fun o => referenceTest (x (ix3 0 0 qx)) (x (ix3 0 0 qy)) (deg (ix1 b)) (dt (ix1 b)) (xt (ix1 b))
    (yt (ix1 b)) (x (ix3 0 o qx)) (x (ix3 0 o qy)) ∧ msk (ix2 b o) = 1#1)]
  refine exists_congr fun o => ?_
  rw [kernelTest_iff hxt hyt]
  tauto

end Cert.Proof

end
-- ==== Proof.lean ====
/- The claims about the kernel, assembled: its frames, the reference's frame, and that the two results are equal. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_drawn
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem

/-- The kernel as compiled leaves its arguments and its counters as they were. -/
theorem kernel_frame : Cert.quiescent_Kernel := fun m ρ _ => Cert.Kernel.Gen.frame m ρ

/-- So does the kernel read in extended reals. -/
theorem ideal_frame : Cert.quiescent_KernelIdeal := fun m ρ _ => Cert.KernelIdeal.Gen.frame m ρ

/-- So does the reference, from any memory. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From memories that agree on the arguments and meet the precondition, kernel and reference end with equal results. -/
theorem results_equal : Cert.algebraic_KernelIdeal_ReferenceIdeal_pre_drawn := by
  intro m ρ m' ρ' hpre hagree
  refine ⟨fun c => shapeCast Cert.KernelIdeal.S8192 (written m c) Cert.KernelIdeal.Facts₀.shapeCasts_S64x128_S8192,
    kernel_run m ρ, ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6, a7⟩ := hagree c
  refine (Ref.res_eq (F := Ideal) m' c).trans ?_
  rw [a0, a1, a2, a3, a4, a5, a6, a7]
  exact (kernel_eq_reference m c _ _ _ _ _ _ _ _ rfl rfl rfl rfl rfl rfl rfl rfl (hpre c)).symm

/-- Every claim. -/
theorem claim : Cert.Claim :=
  ⟨Cert.Kernel.Gen.facts, Cert.KernelIdeal.Gen.facts, Cert.ReferenceIdeal.Gen.facts, Cert.Pre_drawn.Gen.facts,
    kernel_frame, ideal_frame, fun m ρ _ => ideal_frame m ρ trivial, reference_frame,
    fun m ρ _ => reference_frame m ρ trivial, trivial, results_equal⟩

end Cert.Proof

end
